-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_table : Cert.Pre_in_table.Facts] (m : (ℓ : Loc Cert.Reference.nD Cert.Reference.τ Cert.Reference.sig) → Buf (Elt Bits) ℓ) : Prop :=
  ∀ c : Dev Cert.Reference.nD,
    (Cert.Pre_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_table : Cert.Pre_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ quiescent_Reference (hReference := hReference) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
    ∧ bitexact_Kernel_Reference (hKernel := hKernel) (hReference := hReference) (hPre_in_table := hPre_in_table)
-- ==== Pre_in_table.lean ====
abbrev S_ : Shape := ⟨0, ![]⟩
abbrev S100x128 : Shape := ⟨2, ![100, 128]⟩

class Facts : Prop where

variable [Facts]

def fn {F : FTy → Type} [FloatOps F] (main_arg0 : IVec S_ 32) (main_arg1 : FVec F S100x128 .f32) : IVec S_ 1 :=
  let main_c : IVec S_ 32 := constantI S_ 32 0#32
  let main_v0 : IVec S_ 1 := cmpi .sge main_arg0 main_c
  let main_c_0 : IVec S_ 32 := constantI S_ 32 100#32
  let main_v1 : IVec S_ 1 := cmpi .slt main_arg0 main_c_0
  let main_v2 : IVec S_ 1 := andi main_v0 main_v1
  main_v2
-- ==== Kernel.lean ====
abbrev S_ : Shape := ⟨0, ![]⟩
abbrev S100x128 : Shape := ⟨2, ![100, 128]⟩
abbrev S1 : Shape := ⟨1, ![1]⟩
abbrev S1x128 : Shape := ⟨2, ![1, 128]⟩
abbrev S128 : Shape := ⟨1, ![128]⟩

abbrev nBuf : Space → Nat
  | .hbm => 5
  | .vmem => 1
  | .smem => 1
  | _ => 0

abbrev bufTy : (tb : Table) → Fin (tcTables nBuf tb) → BufTy
  | .hbm, ⟨0, _⟩ => ⟨S_, .i32⟩
  | .hbm, ⟨1, _⟩ => ⟨S100x128, .f32⟩
  | .hbm, ⟨2, _⟩ => ⟨S1, .i32⟩
  | .hbm, ⟨3, _⟩ => ⟨S1x128, .f32⟩
  | .hbm, ⟨4, _⟩ => ⟨S128, .f32⟩
  | .local _ .vmem, ⟨0, _⟩ => ⟨S1x128, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (v0 : BitVec 32) : Fin 2 → Nat :=
  let c0_i32 : BitVec 32 := 0#32
  ![v0.toNat, 0]

def k0_chk1 (v0 : BitVec 32) : Prop :=
  (∀ a, (k0_off1 v0) a + S1x128.size a ≤ S100x128.size a)
theorem k0_off1_inb : ∀ (v0 : BitVec 32) (k0_hw1 : k0_chk1 v0), ∀ a, (k0_off1 v0) a + S1x128.size a ≤ S100x128.size a := fun v0 k0_hw1 => k0_hw1

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S_ : Shape := ⟨0, ![]⟩
abbrev S100x128 : Shape := ⟨2, ![100, 128]⟩
abbrev S1 : Shape := ⟨1, ![1]⟩
abbrev S1x1 : Shape := ⟨2, ![1, 1]⟩
abbrev S1x128 : Shape := ⟨2, ![1, 128]⟩
abbrev S128 : Shape := ⟨1, ![128]⟩

abbrev nBuf : Space → Nat
  | .hbm => 26
  | .vmem => 0
  | .smem => 0
  | _ => 0

abbrev bufTy : (tb : Table) → Fin (tcTables nBuf tb) → BufTy
  | .hbm, ⟨0, _⟩ => ⟨S_, .i32⟩
  | .hbm, ⟨1, _⟩ => ⟨S100x128, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x128, .f32⟩
  | .hbm, ⟨21, _⟩ => ⟨S1x128, .i1⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Proof.Lookup.lean ====
/-
  The row lookup itself, free of any program: what the result is (`rowOf`), what the precondition says of the row
  number (`toNat_lt_of_mask`), and that the host text of `jnp.take` on one row number — wrap a negative number, gather
  the row, mask a row number outside the table by NaN, drop the leading axis — is that row when the number is in range
  (`take_eq_rowOf`).
-/
module

public import Idealize.ShloMosaic.PureOps.Reduce
public import Idealize.ShloMosaic.Lib.StableHlo.Predicate
public import Idealize.ShloMosaic.Lib.ValueIdx
public import Idealize.ShloMosaic.Lib.ValueLayout
public import Idealize.ShloMosaic.Lib.Routing.Ops

@[expose] public section

noncomputable section

namespace Cert.Lookup

open Idealize.ShloMosaic Idealize.ShloMosaic.ValueIdx Idealize.ShloMosaic.StableHlo.Predicate

variable {α : Type} {F : FTy → Type} [FloatOps F]

/-- A scalar's shape, and those of one word, of one word in two axes, of the table, of one of its rows in two axes and in one. -/
abbrev T0 : Shape := ⟨0, ![]⟩
abbrev T1 : Shape := ⟨1, ![1]⟩
abbrev T11 : Shape := ⟨2, ![1, 1]⟩
abbrev TTab : Shape := ⟨2, ![100, 128]⟩
abbrev TRow2 : Shape := ⟨2, ![1, 128]⟩
abbrev TRow : Shape := ⟨1, ![128]⟩

/-- Row `s` of a table of 100 rows of 128. -/
def rowOf (table : TTab.Idx → α) (s : BitVec 32) (h : s.toNat < 100) : TRow.Idx → α :=
  fun j => table (ix2 ⟨s.toNat, h⟩ (j 0))

/-- Equal tables and equal row numbers have equal rows, whatever shows the row numbers in range. -/
theorem rowOf_congr {table table' : TTab.Idx → α} {s s' : BitVec 32} (ht : table = table') (hs : s = s') (h : s.toNat < 100)
    (h' : s'.toNat < 100) : rowOf table s h = rowOf table' s' h' := by
  subst ht hs; rfl

/-- One word has one index. -/
theorem one_idx (i j : T1.Idx) : i = j := by
  rw [eq_ix1 i, eq_ix1 j]
  exact congrArg ix1 (Subsingleton.elim (α := Fin 1) _ _)

/-- The precondition at the word it reads: `0 ≤ s` and `s < 100`, both signed, bound the word's value by 100. -/
theorem toNat_lt_of_mask (s : BitVec 32)
    (h : IntOp.andi (IntOp.cmpi .sge s 0#32) (IntOp.cmpi .slt s 100#32) = 1#1) : s.toNat < 100 := by
  have hb : BitVec.ofBool (BitVec.sle 0#32 s && BitVec.slt s 100#32) = 1#1 := by
    rw [← h]
    simp only [IntOp.cmpi]
    generalize BitVec.sle 0#32 s = p
    generalize BitVec.slt s 100#32 = q
    cases p <;> cases q <;> decide
  have hpq := (ofBool_eq_one_iff _).1 hb
  simp only [Bool.and_eq_true, BitVec.sle_eq_decide, BitVec.slt_eq_decide, decide_eq_true_eq,
    BitVec.toInt_eq_toNat_cond, BitVec.toNat_ofNat, Nat.reducePow, Nat.reduceMod] at hpq
  omega

/-- A word below 100 is not negative, -/
theorem slt_zero (s : BitVec 32) (h : s.toNat < 100) : IntOp.cmpi .slt s 0#32 ≠ 1#1 := fun e => by
  have := (slt_iff_toNat (by omega) (by decide)).1 e
  simp at this

/-- and lies in `[0, 99]`. -/
theorem inside (s : BitVec 32) (h : s.toNat < 100) :
    IntOp.andi (IntOp.cmpi .sge s 0#32) (IntOp.cmpi .sle s 99#32) = 1#1 := by
  rw [(sge_iff_toNat (by omega) (by decide)).2 (by simp), (sle_iff_toNat (by omega) (by decide)).2 (by simp; omega)]
  decide

/-- The conjunction of bits that are all set, starting from a set bit, is set. -/
theorem reduce_and_ones {s t u : Shape} {axes : List (Fin s.rank)} (x : IVec s 1) (init : IVec u 1) (h : s.ReducesTo axes t)
    (hu : 0 < u.numel) (hx : ∀ i, x i = 1#1) (hi : ∀ i, init i = 1#1) (j : t.Idx) :
    Host.reduce IntOp.andi x init h hu j = 1#1 := by
  unfold Host.reduce
  rw [hi]
  generalize (List.finRange s.numel).filter _ = l
  induction l with
  | nil => rfl
  | cons n l ih => rw [List.foldl_cons, hx, show IntOp.andi (1#1) (1#1) = 1#1 by decide]; exact ih

section Take

variable (b1 : T0.BroadcastsInDim T1 ![]) (b11 : T1.BroadcastsInDim T11 ![0]) (b11z : T0.BroadcastsInDim T11 ![])
  (b11m : T1.BroadcastsInDim T11 ![1]) (hred : T11.ReducesTo [1] T1) (h0 : 0 < T0.numel)
  (brow : T1.BroadcastsInDim TRow2 ![0]) (bfill : T0.BroadcastsInDim TRow2 ![])
  (d : GatherDims TTab T11 TRow2) (hc : TRow2.ShapeCasts TRow)

/-- The row number as `jnp.take` uses it: a negative one has the number of rows added. -/
abbrev wrapped (s : IVec T0 32) : IVec T1 32 :=
  select (cmpi .slt (broadcastInDim T1 ![] b1 s) (broadcastInDim T1 ![] b1 (constantI T0 32 0#32)))
    (addi (broadcastInDim T1 ![] b1 s) (broadcastInDim T1 ![] b1 (constantI T0 32 100#32))) (broadcastInDim T1 ![] b1 s)

/-- The reference's result as the host operations compose it. -/
abbrev takeTerm (s : IVec T0 32) (table : FVec F TTab .f32) : FVec F TRow .f32 :=
  shapeCast TRow
    (select
      (broadcastInDim TRow2 ![0] brow
        (Host.reduce IntOp.andi
          (andi (cmpi .sge (broadcastInDim T11 ![0] b11 (wrapped b1 s)) (broadcastInDim T11 ![] b11z (constantI T0 32 0#32)))
            (cmpi .sle (broadcastInDim T11 ![0] b11 (wrapped b1 s)) (broadcastInDim T11 ![1] b11m (constantI T1 32 99#32))))
          (constantI T0 1 1#1) hred h0))
      (Host.gather d table (broadcastInDim T11 ![0] b11 (wrapped b1 s)))
      (broadcastInDim TRow2 ![] bfill (constant T0 .f32 0x7FC00000#32))) hc

theorem wrapped_apply (s : IVec T0 32) (h : (s ix0).toNat < 100) (i : T1.Idx) : wrapped b1 s i = s ix0 := by
  have hs : ∀ k : T0.Idx, s k = s ix0 := fun k => congrArg s (eq_ix0 k)
  simp only [wrapped, select, cmpi, broadcastInDim, constantI, addi, hs, Scalar.select]
  exact if_neg (slt_zero _ h)

/-- THE REFERENCE IS THE ROW: for a row number below 100 the composed host operations give that row of the table. -/
theorem take_eq_rowOf (hoff : d.offsetDims = [1]) (hcoll : d.collapsedSliceDims = [0]) (hob : d.operandBatchingDims = [])
    (hsim : d.startIndexMap = [0]) (hivd : d.indexVectorDim = 1) (s : IVec T0 32) (h : (s ix0).toNat < 100) (table : FVec F TTab .f32) :
    takeTerm b1 b11 b11z b11m hred h0 brow bfill d hc s table = rowOf table (s ix0) h := by
  have hw : ∀ i, wrapped b1 s i = s ix0 := wrapped_apply b1 s h
  have hidx : ∀ i, broadcastInDim T11 ![0] b11 (wrapped b1 s) i = s ix0 := fun i => by
    simp only [broadcastInDim]; exact hw _
  funext j
  obtain ⟨k, rfl⟩ : ∃ k : Fin 128, j = ix1 k := ⟨j 0, eq_ix1 j⟩
  refine (shapeCast_1a_a_apply _ hc k).trans ?_
  simp only [select, Scalar.select]
  rw [if_pos]
  · exact Routing.gather_row d hoff hcoll hob hsim hivd table _ 0 k ⟨(s ix0).toNat, h⟩
      ((hidx _).trans (by simp)) (by decide)
  · refine reduce_and_ones _ _ hred h0 (fun i => ?_) (fun _ => rfl) _
    simp only [andi, cmpi]
    rw [hidx]
    exact inside _ h

end Take

end Cert.Lookup

end
-- ==== Proof.KernelRun.lean ====
/-
  The kernel's run. Its one pipeline has a point and two windows: the row number, one word staged in scalar memory, and the
  output row. The table stays in HBM: the body reads the word, copies that row of the table into the output's buffer by a
  transfer of its own on a semaphore of its own, and waits for it. @main gives the row number an axis before the region and
  drops the output's leading axis after it. `run` states what every run ends with.
-/
module

public import proofs.«01_k».proof.Proof.Gen.Kernel.Frame
public import proofs.«01_k».proof.Proof.Gen.Kernel.Skeleton
public import proofs.«01_k».proof.Proof.Lookup
public import Idealize.ShloMosaic.Lib.Pipeline.Frame
public import Idealize.ShloMosaic.Lib.Tactic
public import Idealize.ShloMosaic.Lib.Transfers
public import Idealize.ShloMosaic.Lib.ValueIdx
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The operands the body is handed -/

/-- The windows' staging buffers as the pipeline passes them, and that they are whole. -/
abbrev ms0_0 (t : Fin cfg0.N) : Memref sig .tc .smem S1 .i32 := win0_0.stage (cfg0.slots t 0)
abbrev hs0_0 (t : Fin cfg0.N) : (ms0_0 t).IsWhole := hstage0_0 0
abbrev ms0_1 (t : Fin cfg0.N) : Memref sig .tc .vmem S1x128 .f32 := win0_1.stage (cfg0.slots t 1)
abbrev hs0_1 (t : Fin cfg0.N) : (ms0_1 t).IsWhole := hstage0_1 0
/-- The table, left in HBM, and its buffer held whole at `f`. -/
abbrev tbM : Memref sig .tc .hbm S100x128 .f32 := Memref.whole main_arg1
abbrev tbPt (c : Dev nD) (f : Buf (Elt F) (tbM.view.loc (c : Thread nD τ))) : sProp 𝕄 :=
  tbM.view.loc (c : Thread nD τ) ↦{fullShare} f

/-- The row of the table the body copies: row `v`, inside the table by `h`. -/
abbrev rowM (v : BitVec 32) (h : k0_chk1 v) : Memref sig .tc .hbm S1x128 .f32 :=
  tbM.slice (Rect.unit (s := S100x128) (k0_off1 v) S1x128.size (k0_off1_inb v h)) (fun _ => rfl)

/-! ## The kernel's own semaphore and the table it reads -/

/-- The scratch semaphore's cell. -/
abbrev osem0 : Fin 1 → SemLoc sig := fun _ => SemLoc.dma 2
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 2) 0 := by
  rw [Pipeline.ownSems0_eq_of_list c osem0 [0] (by decide) (by decide)]; rfl
/-- The table: unscoped, and no window's array. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = tbPt c (V m c main_arg1) := by
  rw [BI.bigSep_eq_bigSepL_of_eq [main_arg1] (by decide) (by decide)]; rfl

/-- What the body is lent besides its windows, conjunct by conjunct: nothing scoped, the generator register at some state,
    the semaphore at zero, the table as the region finds it. -/
theorem PhiD0_eq (c : Dev nD) :
    (Pipeline.ΦD osem0 spec0 H0 (V m) c : sProp 𝕄)
      = iprop(BI.emp ∗ (∃ r, prngReg c r) ∗ semVal ((c : Thread nD τ), SemLoc.dma 2) 0 ∗ tbPt c (V m c main_arg1)) := by
  rw [Pipeline.ΦD_eq, scopedRest0_eq, ownSems00_eq, hbmPts0_eq]

/-! ## The body, run once -/

/-- THE BODY: from the staged word `X` whose one entry is `v`, a row number inside the table, the output's buffer at
    anything, the semaphore at zero and the table at `fh`, the body ends with the output's buffer at row `v` of the table
    and everything else as it was. -/
theorem kernelRun (c : Dev nD) (arg0 : Memref sig .tc .smem S1 .i32) (harg0 : arg0.IsWhole)
    (arg2 : Memref sig .tc .vmem S1x128 .f32) (harg2 : arg2.IsWhole) (X : S1.Idx → BitVec 32)
    (v : BitVec 32) (hv : X (ix1 0) = v) (hchk : k0_chk1 v)
    (fh : Buf (Elt F) (tbM.view.loc (c : Thread nD τ))) (W : Waits sig Unit) (K : PUnit → sProp 𝕄) :
    iprop(owns (c : Thread nD τ) arg0 fullShare X ∗ (∃ d, owns (c : Thread nD τ) arg2 fullShare d)
        ∗ semVal ((c : Thread nD τ), SemLoc.dma 2) 0 ∗ tbPt c fh ∗ owes (c : Thread nD τ) 0 W
        ∗ (iprop(owns (c : Thread nD τ) arg0 fullShare X
              ∗ owns (c : Thread nD τ) arg2 fullShare ((rowM v hchk).view.read (Elt F) fh)
              ∗ semVal ((c : Thread nD τ), SemLoc.dma 2) 0 ∗ tbPt c fh
              ∗ ∃ W', owes (c : Thread nD τ) 0 W') -∗ K ⟨⟩))
      ⊢ wp frame (wpE (defs₀ (F := F)) Variants.none c none) Set.univ
          (cc0__row_dma arg0 harg0 tbM (Memref.isWhole_whole _) arg2 harg2 cc0_scratch0) K := by
  simp only [cc0__row_dma_eq_skeleton]; unfold cc0__row_dma_skel
  unfold owns
  iintro ⟨⟨%f0, %h0, H0⟩, ⟨%d2, %f2, -, H2⟩, Hq, Hh, HW, Hk⟩
  subst h0
  sl_exec
  have e : kernelRun.sl.r c arg0 f0 = v := by
    rw [← hv]; unfold kernelRun.sl.r
    rw [View.readAt_apply]
    exact congrArg _ (Lookup.one_idx _ _)
  subst e
  sl_exec
  sl_step
  iapply Hk
  isplitl [H0]
  · iexists _; isplitr; swap; · iexact H0
    ipureintro; rfl
  isplitl [H2]
  · iexists _; isplitr; swap; · iexact H2
    ipureintro
    funext y
    refine (congrArg _ (Rect.emb_whole_apply S1x128 y).symm).trans ((View.read_writes_cons_emb _ _ (Rect.whole S1x128) _ [] y).trans ?_)
    rfl
  isplitl [Hq]; · iexact Hq
  isplitl [Hh]; · iexact Hh
  iexists _; iexact HW

/-! ## The word the body reads and the row it moves -/

/-- The row number as launched: the one word of `main_arg0`. -/
abbrev word (c : Dev nD) : BitVec 32 := m ((c : Thread nD τ).loc main_arg0) ix0

/-- A row number below 100 is one whose row lies inside the table: the condition the body assumes. -/
theorem chk_of_lt (v : BitVec 32) (h : v.toNat < 100) : k0_chk1 v := by
  unfold k0_chk1 k0_off1
  intro a
  fin_cases a
  · show v.toNat + 1 ≤ 100
    omega
  · show 0 + 128 ≤ 128
    omega

/-- The word staged for the body is the row number: the host line before the region only gives it an axis. -/
theorem staged_word (c : Dev nD) (t : Fin cfg0.N) : iblk m c 0 t (ix1 0) = word m c := by
  have e : V m c main_v0 = shapeCast S1 (m ((c : Thread nD τ).loc main_arg0)) shapeCasts_S_S1 := by
    show StableHlo.after (List.flatten [hostOps0]) _ _ = _
    simp only [hostOps0, List.flatten_cons, List.flatten_nil, List.append_nil]
    after_results
    rfl
  have hr : iblk m c 0 t = V m c main_v0 :=
    Memref.read_access_unit_zero (Elt F) main_v0 (funext fun a => by fin_cases a; rfl) _ (V m c main_v0)
  rw [hr, e]
  exact congrArg (m ((c : Thread nD τ).loc main_arg0)) (eq_ix0 _)

variable (hs : ∀ c, (word m c).toNat < 100)

/-- The row of the table the body copies, read through its window of the table. -/
abbrev rowRead (c : Dev nD) : S1x128.Idx → Elt F .f32 :=
  (rowM (word m c) (chk_of_lt _ (hs c))).view.read (Elt F) (V m c main_arg1)

/-- Its entries: the table's, in row `word`. -/
theorem rowRead_apply (c : Dev nD) (k : Fin 128) :
    rowRead m hs c (ix2 (0 : Fin 1) k) = m ((c : Thread nD τ).loc main_arg1) (ix2 (⟨(word m c).toNat, hs c⟩ : Fin 100) k) := by
  rw [← V_main_arg1 m c]
  refine congrArg (V m c main_arg1) (funext fun a => Fin.ext ?_)
  fin_cases a
  · show (word m c).toNat + 1 * 0 = (word m c).toNat
    omega
  · show 0 + 1 * k.val = k.val
    omega

/-! ## The proof data and the body obligation -/

/-- The proof data on core `c`: each window's array as the region finds it; after the body the staged word as it was, and
    the output's buffer at the row copied; between the ends of the point the body's own semaphore at zero and the table. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => rowRead m hs c
  Φ _ := Pipeline.ΦD osem0 spec0 H0 (V m) c
  q _ := fullShare
  owed _ := 0

theorem A_eq (c : Dev nD) (w : Fin cfg0.W) : (dats m hs 0 c).A w = V m c (Pipeline.arrRef spec0 w) := by
  dsimp only [dats]

/-- The staged word before the body: the block fetched from `main_v0`. -/
theorem before_word (c : Dev nD) (t : Fin cfg0.N) (d) : (dats m hs 0 c).before 0 t d = iblk m c 0 t := by
  unfold Dat.before
  rw [if_pos (fetch0_0 t)]
  rfl

/-- What the body starts from at the point, and what it ends with. -/
def bodyPre (c : Dev nD) (t : Fin cfg0.N) : sProp 𝕄 :=
  iprop((dats m hs 0 c).Φ t.castSucc ∗ (dats m hs 0 c).owesAt () t.castSucc
    ∗ (∃ d, owns (c : Thread nD τ) (ms0_0 t) fullShare ((dats m hs 0 c).before 0 t d))
    ∗ (∃ d, owns (c : Thread nD τ) (ms0_1 t) fullShare ((dats m hs 0 c).before 1 t d)))
def bodyPost (c : Dev nD) (t : Fin cfg0.N) : sProp 𝕄 :=
  iprop((dats m hs 0 c).Φ t.succ ∗ (dats m hs 0 c).owesAt () t.succ
    ∗ owns (c : Thread nD τ) (ms0_0 t) fullShare (iblk m c 0 t)
    ∗ owns (c : Thread nD τ) (ms0_1 t) fullShare (rowRead m hs c))

/-- The body at the point, from `bodyPre` to `bodyPost`. -/
theorem sound_body (c : Dev nD) (t : Fin cfg0.N) :
    bodyPre m hs c t ⊢ wp frame (wpE (defs₀ (F := F)) Variants.none c none) Set.univ (bodyAt0 t) (fun _ => bodyPost m hs c t) := by
  unfold bodyPre bodyPost bodyAt0
  rw [show (dats m hs 0 c).Φ t.succ = (dats m hs 0 c).Φ t.castSucc from rfl,
    show (dats m hs 0 c).owesAt () t.succ = (dats m hs 0 c).owesAt () t.castSucc from rfl,
    show (dats m hs 0 c).Φ t.castSucc = Pipeline.ΦD osem0 spec0 H0 (V m) c from rfl, PhiD0_eq]
  unfold Dat.owesAt Pipeline.owesWithin
  rw [show (dats m hs 0 c).owed t.castSucc = 0 from rfl]
  simp only [before_word]
  iintro ⟨⟨He, Hg, Hq, Hh⟩, ⟨%W, %hW, HO⟩, ⟨%d0, H0⟩, ⟨%d1, H1⟩⟩
  iapply (kernelRun c (ms0_0 t) (hs0_0 t) (ms0_1 t) (hs0_1 t) (iblk m c 0 t) (word m c) (staged_word m c t)
    (chk_of_lt _ (hs c)) (V m c main_arg1) W _)
  isplitl [H0]; · iexact H0
  isplitl [H1]; · iexists _; iexact H1
  isplitl [Hq]; · iexact Hq
  isplitl [Hh]; · iexact Hh
  isplitl [HO]; · iexact HO
  iintro ⟨H0, H1, Hq, Hh, ⟨%W', HO⟩⟩
  isplitl [He Hg Hq Hh]
  · isplitl [He]; · iexact He
    isplitl [Hg]; · iexact Hg
    isplitl [Hq]; · iexact Hq
    iexact Hh
  isplitl [HO]
  · iexists W'; isplitr; · ipureintro; exact fun _ _ => Or.inl trivial
    iexact HO
  isplitl [H0]; · iexact H0
  iexact H1

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body keeps the pipeline's contract. -/
theorem body_obligation (c : Dev nD) :
    BodyObligation (dats m hs 0 c) (defs₀ (F := F)) Variants.none () Set.univ := fun t => by
  rw [bigSep_W0, bigSep_W0, defs₀_row]
  exact triple_restated (sound_body m hs c t) rfl .rfl fun _ => .rfl

/-! ## The launch -/

/-- @main is the line before the region, the region, and the line after it. -/
theorem hmainD (𝒱₀ : Variants) : Pipeline.HMainK (Ix := Unit) (Name := ℕ) (U := Pipeline.UD sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches neither the table nor anything but the arrays and the buffers beside them. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  simp only [hostOps1, List.mem_cons, List.mem_nil_iff, or_false] at hop
  subst hop
  show ({Proc.devRef .tc main_v1, Proc.devRef .tc main_v2} : Finset (DevRef τ sig)) ⊆ _
  decide

set_option backward.isDefEq.respectTransparency.types false in
/-- Every run of @main ends, with each array at what the pipeline's write-backs leave in it, every other unscoped buffer at
    what the line after the region leaves, and every semaphore's counter at zero. -/
theorem run_main :
    θ_run defs (onTc (τ := τ) (main (F := F))) (s₀ m ρ)
      (fun r => Pipeline.FramePost cfgs (dats m hs) 0 (Pipeline.afterTail₀ cfgs (dats m hs) 0 (V0 m) [hostOps1]) r
        ∧ r.2.sem = fun _ => 0) :=
  Pipeline.θ_run_frame_dma_around (Q' := _) cfgs (dats m hs) (0 : Fin 1) launch0 osem0 defs₀ Variants.none ownSemFacts0 H0 H0_sub m ρ main
    (hbody := fun c => (body_obligation m hs c).loose) (hshare := fun c => (dats m hs 0 c).share_full fun _ => rfl)
    (howed := fun _ _ => rfl) (V₀ := V0 m) (opss := [hostOps1]) (hsub := tail_sub) (hfresh := sfx_fresh) (hkeep := sfx_keeps)
    (hmain := hmainD m Variants.none) (hA := A_eq m hs) (hin := fun _ => .rfl) (hout := fun _ => .rfl)

/-! ## The result and the arguments, read after the run -/

/-- A buffer that no window stages and no line after the region writes keeps its region-entry contents. -/
theorem tail_arg {b : Ref sig .tc} (hb : ∀ w, Pipeline.arrRef spec0 w ≠ b) (hne : b ≠ main_v2) (c : Dev nD) :
    Pipeline.afterTail₀ cfgs (dats m hs) 0 (V0 m) [hostOps1] c b = V m c b := by
  unfold Pipeline.afterTail₀
  rw [StableHlo.after_of_forall_not_mem (b := Proc.devRef .tc b) _ _ (fun op hop => ?_),
    Pipeline.withArrays_of_ne _ c (V0 m c) _ b hb]
  simp only [hostOps1, List.flatten_cons, List.flatten_nil, List.append_nil, List.mem_cons, List.mem_nil_iff, or_false] at hop
  subst hop
  simp only [StableHlo.reshape_writes, Finset.mem_singleton]
  exact StableHlo.devRef_ne_of_ne hne

/-- The output's array after its one write-back is the row copied. -/
theorem out_array (c : Dev nD) : (dats m hs 0 c).arrAt 1 cfg0.N = rowRead m hs c := by
  have hN : cfg0.N = 0 + 1 := N_0
  have h0 : 0 < cfg0.N := by rw [hN]; decide
  rw [hN, Dat.arrAt, dif_pos h0, if_pos (flush0_1 ⟨0, h0⟩)]
  exact Memref.write_access_unit_zero_univ (Elt F) main_v1 (funext fun a => by fin_cases a <;> rfl) _ _ _

/-- The result after the run: row `word` of the table. -/
theorem tail_result (c : Dev nD) :
    Pipeline.afterTail₀ cfgs (dats m hs) 0 (V0 m) [hostOps1] c main_v2
      = Lookup.rowOf (m ((c : Thread nD τ).loc main_arg1)) (word m c) (hs c) := by
  have e : Pipeline.afterTail₀ cfgs (dats m hs) 0 (V0 m) [hostOps1] c main_v2
      = shapeCast S128 (rowRead m hs c) shapeCasts_S1x128_S128 := by
    unfold Pipeline.afterTail₀
    simp only [hostOps1, List.flatten_cons, List.flatten_nil, List.append_nil]
    after_results
    have hw := Pipeline.withArrays_arr spec0 launch0.win.arr_inj c (V0 m c) (fun w => (dats m hs 0 c).arrAt w cfg0.N) 1
    rw [out_array m hs c] at hw
    funext i
    exact congrArg (fun f => shapeCast S128 f shapeCasts_S1x128_S128 i) hw
  rw [e]
  funext j
  obtain ⟨k, rfl⟩ : ∃ k : Fin 128, j = ix1 k := ⟨j 0, eq_ix1 j⟩
  exact (shapeCast_1a_a_apply _ shapeCasts_S1x128_S128 k).trans (rowRead_apply m hs c k)

/-- THE KERNEL'S RUN: if the row number is below 100 on every core, every run of @main ends with the result at that row of the
    table, both arguments as launched, and every semaphore's counter at zero. -/
theorem run :
    θ_run defs (onTc (τ := τ) (main (F := F))) ⟨m, fun _ => 0, ρ⟩ (fun r => (∀ c : Dev nD,
      r.2.mem ((c.tc : Thread nD τ).loc main_v2) = Lookup.rowOf (m ((c.tc : Thread nD τ).loc main_arg1)) (word m c) (hs c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_v2 (Pipeline.mem_restRefs_of main_v2 (by decide) (by decide))).trans (tail_result m hs c),
      ((h.1 c).2 main_arg0 (Pipeline.mem_restRefs_of main_arg0 (by decide) (by decide))).trans
        ((tail_arg m hs (by decide) (by decide) c).trans (V_main_arg0 m c)),
      ((h.1 c).2 main_arg1 (Pipeline.mem_restRefs_of main_arg1 (by decide) (by decide))).trans
        ((tail_arg m hs (by decide) (by decide) c).trans (V_main_arg1 m c))⟩, h.2⟩) (run_main m ρ hs)

end Cert.Kernel.Hand

end
-- ==== Proof.KernelIdealRun.lean ====
/-
  The idealized kernel is the kernel's own text, read where a float is an extended real. Its run is therefore the
  kernel's run (KernelRun.lean, which holds for any floats), carried over along the equality of the two programs.
-/
module

public import proofs.«01_k».proof.Proof.Gen.KernelIdeal
public import proofs.«01_k».proof.Proof.KernelRun

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F] [∀ e, Nonempty (Elt F e)]

/-- The two programs' kernel bodies are the same, -/
theorem defs₀_eq : defs₀ (F := F) = Cert.Kernel.defs₀ (F := F) := by
  unfold defs₀ Cert.Kernel.defs₀
  congr 1
  funext l a
  obtain ⟨n, hn⟩ := l
  cases n with
  | zero => rfl
  | succ n => exact absurd hn (Nat.not_lt.2 (Nat.le_add_left _ _))

/-- and so are their tables of bodies, -/
theorem defs_eq : defs (F := F) = Cert.Kernel.defs (F := F) :=
  congrArg (Pipeline.defs (Cert.Kernel.pcfgs (F := F))) defs₀_eq

/-- and their @main. -/
theorem main_eq_kernel : main (F := F) = Cert.Kernel.main (F := F) := rfl

/-- THE IDEALIZED KERNEL'S RUN: if the row number is below 100 on every core, every run of @main ends with the result at that
    row of the table, both arguments as launched, and every semaphore's counter at zero. -/
theorem run (m : (ℓ : Loc nD τ sig) → Buf (Elt F) ℓ) (ρ : Dev nD → PrngReg)
    (hs : ∀ c : Dev nD, (Cert.Kernel.Hand.word m c).toNat < 100) :
    θ_run defs (onTc (τ := τ) (main (F := F))) ⟨m, fun _ => 0, ρ⟩ (fun r => (∀ c : Dev nD,
      r.2.mem ((c.tc : Thread nD τ).loc main_v2)
        = Lookup.rowOf (m ((c.tc : Thread nD τ).loc main_arg1)) (Cert.Kernel.Hand.word m c) (hs c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.Kernel.Hand.run m ρ hs

end Cert.KernelIdeal.Hand

end
-- ==== Proof.ReferenceRun.lean ====
/-
  The reference's run, its result said as a row of the table: the composed host operations the run ends with are that row
  when the row number is below 100 (Lookup.lean). Once for the reference as printed and once for its idealization.
-/
module

public import proofs.«01_k».proof.Proof.Gen.Reference.Run
public import proofs.«01_k».proof.Proof.Gen.ReferenceIdeal.Run
public import proofs.«01_k».proof.Proof.Lookup
public import Idealize.ShloMosaic.Adequacy
public import Idealize.ShloMosaic.Init

@[expose] public section

noncomputable section

namespace Cert.Reference.Hand

open Cert.Reference Cert.Reference.Gen
open Idealize.ShloMosaic Idealize.ShloMosaic.TcCoe Idealize.ShloMosaic.ValueIdx Idealize.SL.Sem

variable {F : FTy → Type} [FloatOps F]

/-- The reference ends with row `s` of the table on every core where its row number `s` is below 100. -/
theorem run (m : (ℓ : Loc nD τ sig) → Buf (Elt F) ℓ) (ρ : Dev nD → PrngReg)
    (hs : ∀ c : Dev nD, (m ((c.tc : Thread nD τ).loc main_arg0) ix0).toNat < 100) :
    θ_run defs (onTc (τ := τ) (main (F := F))) ⟨m, fun _ => 0, ρ⟩ (fun r => ∀ c : Dev nD,
      r.2.mem ((c.tc : Thread nD τ).loc main_v2)
        = Lookup.rowOf (m ((c.tc : Thread nD τ).loc main_arg1)) (m ((c.tc : Thread nD τ).loc main_arg0) ix0) (hs c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans
    (Lookup.take_eq_rowOf bcast_S_S1 bcast_S1_S1x1_0 bcast_S_S1x1 bcast_S1_S1x1_1 reducesTo_S1x1_S1_d1 h_S_ bcast_S1_S1x128_0
      bcast_S_S1x128 gather_S100x128_S1x1_S1x128_1_0_n_n_0_1_1128 shapeCasts_S1x128_S128 rfl rfl rfl rfl rfl _ (hs c) _),
    (h c).2⟩) (Value.run m ρ)

/-- From any memory the reference leaves its arguments as launched and every semaphore's counter at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m ρ)

end Cert.Reference.Hand

namespace Cert.ReferenceIdeal.Hand

open Cert.ReferenceIdeal Cert.ReferenceIdeal.Gen
open Idealize.ShloMosaic Idealize.ShloMosaic.TcCoe Idealize.ShloMosaic.ValueIdx Idealize.SL.Sem

variable {F : FTy → Type} [FloatOps F]

/-- The idealized reference ends with row `s` of the table on every core where its row number `s` is below 100. -/
theorem run (m : (ℓ : Loc nD τ sig) → Buf (Elt F) ℓ) (ρ : Dev nD → PrngReg)
    (hs : ∀ c : Dev nD, (m ((c.tc : Thread nD τ).loc main_arg0) ix0).toNat < 100) :
    θ_run defs (onTc (τ := τ) (main (F := F))) ⟨m, fun _ => 0, ρ⟩ (fun r => ∀ c : Dev nD,
      r.2.mem ((c.tc : Thread nD τ).loc main_v2)
        = Lookup.rowOf (m ((c.tc : Thread nD τ).loc main_arg1)) (m ((c.tc : Thread nD τ).loc main_arg0) ix0) (hs c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans
    (Lookup.take_eq_rowOf bcast_S_S1 bcast_S1_S1x1_0 bcast_S_S1x1 bcast_S1_S1x1_1 reducesTo_S1x1_S1_d1 h_S_ bcast_S1_S1x128_0
      bcast_S_S1x128 gather_S100x128_S1x1_S1x128_1_0_n_n_0_1_1128 shapeCasts_S1x128_S128 rfl rfl rfl rfl rfl _ (hs c) _),
    (h c).2⟩) (Value.run m ρ)

/-- From any memory the idealized reference leaves its arguments as launched and every semaphore's counter at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m ρ)

end Cert.ReferenceIdeal.Hand

end
-- ==== Proof.lean ====
/-
  The proof of `Cert.Claim`. Under the precondition the row number is below 100 (`word_lt`); then kernel and reference both
  end with that row of the table (`Kernel.Hand.run`, `Reference.Hand.run` and their idealized counterparts), so their
  results are equal, on bits and on extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_in_table
public import proofs.«01_k».proof.Proof.Gen.ReferenceIdeal.Run
public import proofs.«01_k».proof.Proof.Gen.Reference.Run
public import proofs.«01_k».proof.Proof.KernelRun
public import proofs.«01_k».proof.Proof.KernelIdealRun
public import proofs.«01_k».proof.Proof.ReferenceRun
public import Idealize.ShloMosaic.Adequacy
public import Idealize.ShloMosaic.Init

@[expose] public section

noncomputable section

namespace Cert.Proof

open Idealize.ShloMosaic Idealize.ShloMosaic.ValueIdx Idealize.SL.Sem

/-- The precondition bounds the row number: its one word is below 100. -/
theorem word_lt {F : FTy → Type} [FloatOps F] (s : IVec Lookup.T0 32) (table : FVec F Lookup.TTab .f32)
    (h : Cert.Pre_in_table.fn (F := F) s table = fun _ => 1#1) : (s ix0).toNat < 100 :=
  Lookup.toNat_lt_of_mask _ (congrFun h ix0)

/-- The kernel runs and leaves its arguments as launched and every semaphore at zero. -/
theorem kernel_quiescent : quiescent_Kernel := fun m g hp =>
  (θ_run Cert.Kernel.defs _ _).mono (fun _ h => ⟨fun c => (h.1 c).2, h.2⟩)
    (Cert.Kernel.Hand.run (F := Bits) m g fun c => word_lt _ _ (hp c))

/-- So does the idealized kernel. -/
theorem kernelIdeal_quiescent : quiescent_KernelIdeal := fun m g hp =>
  (θ_run Cert.KernelIdeal.defs _ _).mono (fun _ h => ⟨fun c => (h.1 c).2, h.2⟩)
    (Cert.KernelIdeal.Hand.run (F := Ideal) m g fun c => word_lt _ _ (hp c))

/-- On extended reals kernel and reference end with the same row of the table. -/
theorem algebraic : algebraic_KernelIdeal_ReferenceIdeal := fun m g m' g' hp hm => by
  have hs : ∀ c, (Cert.Kernel.Hand.word (F := Ideal) m c).toNat < 100 := fun c => word_lt _ _ (hp c)
  have hw : ∀ c : Dev Cert.ReferenceIdeal.nD, m' ((c.tc : Thread Cert.ReferenceIdeal.nD Cert.ReferenceIdeal.τ).loc Cert.ReferenceIdeal.main_arg0) ix0
      = Cert.Kernel.Hand.word (F := Ideal) m c := fun c => congrFun (hm c).1 ix0
  have hs' : ∀ c : Dev Cert.ReferenceIdeal.nD,
      (m' ((c.tc : Thread Cert.ReferenceIdeal.nD Cert.ReferenceIdeal.τ).loc Cert.ReferenceIdeal.main_arg0) ix0).toNat < 100 :=
    fun c => (congrArg BitVec.toNat (hw c)).trans_lt (hs c)
  refine ⟨fun c => Lookup.rowOf (m ((c.tc : Thread Cert.KernelIdeal.nD Cert.KernelIdeal.τ).loc Cert.KernelIdeal.main_arg1))
    (Cert.Kernel.Hand.word m c) (hs c), ?_, ?_⟩
  · exact (θ_run Cert.KernelIdeal.defs _ _).mono (fun _ h => h.1) (Cert.KernelIdeal.Hand.run (F := Ideal) m g hs)
  · exact (θ_run Cert.ReferenceIdeal.defs _ _).mono
      (fun _ h c => ⟨(h c).1.trans (Lookup.rowOf_congr (hm c).2 (hw c) _ _), (h c).2⟩)
      (Cert.ReferenceIdeal.Hand.run (F := Ideal) m' g' hs')

/-- Bit for bit kernel and reference end with the same row of the table. -/
theorem bitexact : bitexact_Kernel_Reference := fun m g m' g' hp hm => by
  have hs : ∀ c, (Cert.Kernel.Hand.word (F := Bits) m c).toNat < 100 := fun c => word_lt _ _ (hp c)
  have hw : ∀ c : Dev Cert.Reference.nD, m' ((c.tc : Thread Cert.Reference.nD Cert.Reference.τ).loc Cert.Reference.main_arg0) ix0
      = Cert.Kernel.Hand.word (F := Bits) m c := fun c => congrFun (hm c).1 ix0
  have hs' : ∀ c : Dev Cert.Reference.nD,
      (m' ((c.tc : Thread Cert.Reference.nD Cert.Reference.τ).loc Cert.Reference.main_arg0) ix0).toNat < 100 :=
    fun c => (congrArg BitVec.toNat (hw c)).trans_lt (hs c)
  refine ⟨fun c => Lookup.rowOf (m ((c.tc : Thread Cert.Kernel.nD Cert.Kernel.τ).loc Cert.Kernel.main_arg1))
    (Cert.Kernel.Hand.word m c) (hs c), ?_, ?_⟩
  · exact (θ_run Cert.Kernel.defs _ _).mono (fun _ h => h.1) (Cert.Kernel.Hand.run (F := Bits) m g hs)
  · exact (θ_run Cert.Reference.defs _ _).mono
      (fun _ h c => ⟨(h c).1.trans (Lookup.rowOf_congr (hm c).2 (hw c) _ _), (h c).2⟩)
      (Cert.Reference.Hand.run (F := Bits) m' g' hs')

theorem claim : Cert.Claim :=
  ⟨Cert.Kernel.Gen.facts, Cert.KernelIdeal.Gen.facts, Cert.ReferenceIdeal.Gen.facts, Cert.Reference.Gen.facts, Cert.Pre_in_table.Gen.facts,
    kernel_quiescent, kernelIdeal_quiescent, fun m g _ => Cert.ReferenceIdeal.Hand.quiescent m g,
    fun m g _ => Cert.ReferenceIdeal.Hand.quiescent m g, fun m g _ => Cert.Reference.Hand.quiescent m g, trivial, algebraic, bitexact⟩

end Cert.Proof

end
